-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_v18_2) = v2 c
          ∧ r.2.mem ((c.tc : Thread Cert.ReferenceIdeal.nD Cert.ReferenceIdeal.τ).loc Cert.ReferenceIdeal.main_v18_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1920x48x128 : Shape := ⟨4, ![1, 1920, 48, 128]⟩
abbrev S1x1920x48 : Shape := ⟨3, ![1, 1920, 48]⟩
abbrev S1x1920x8x128 : Shape := ⟨4, ![1, 1920, 8, 128]⟩
abbrev S1x1920x8 : Shape := ⟨3, ![1, 1920, 8]⟩
abbrev S128 : Shape := ⟨1, ![128]⟩
abbrev S1x1920 : Shape := ⟨2, ![1, 1920]⟩
abbrev S1x128 : Shape := ⟨2, ![1, 128]⟩
abbrev S1x1920x1 : Shape := ⟨3, ![1, 1920, 1]⟩
abbrev S64 : Shape := ⟨1, ![64]⟩
abbrev S_ : Shape := ⟨0, ![]⟩
abbrev S1x64x48x128 : Shape := ⟨4, ![1, 64, 48, 128]⟩
abbrev S1x64x48 : Shape := ⟨3, ![1, 64, 48]⟩
abbrev S1x64x8x128 : Shape := ⟨4, ![1, 64, 8, 128]⟩
abbrev S1x64x8 : Shape := ⟨3, ![1, 64, 8]⟩
abbrev S1x64x1 : Shape := ⟨3, ![1, 64, 1]⟩
abbrev S64x1 : Shape := ⟨2, ![64, 1]⟩
abbrev S64x128 : Shape := ⟨2, ![64, 128]⟩
abbrev S64x1x128 : Shape := ⟨3, ![64, 1, 128]⟩
abbrev S1x1x128 : Shape := ⟨3, ![1, 1, 128]⟩
abbrev S64x48x128 : Shape := ⟨3, ![64, 48, 128]⟩
abbrev S64x48 : Shape := ⟨2, ![64, 48]⟩
abbrev S64x48x1 : Shape := ⟨3, ![64, 48, 1]⟩
abbrev S48x128 : Shape := ⟨2, ![48, 128]⟩
abbrev S64x8x128 : Shape := ⟨3, ![64, 8, 128]⟩
abbrev S64x8 : Shape := ⟨2, ![64, 8]⟩
abbrev S64x8x1 : Shape := ⟨3, ![64, 8, 1]⟩
abbrev S8x128 : Shape := ⟨2, ![8, 128]⟩

abbrev nBuf : Space → Nat
  | .hbm => 31
  | .vmem => 27
  | .smem => 0
  | _ => 0

abbrev bufTy : (tb : Table) → Fin (tcTables nBuf tb) → BufTy
  | .hbm, ⟨0, _⟩ => ⟨S1x1920x48x128, .fp8e5m2⟩
  | .hbm, ⟨1, _⟩ => ⟨S1x1920x48, .f32⟩
  | .hbm, ⟨2, _⟩ => ⟨S1x1920x8x128, .fp8e5m2⟩
  | .hbm, ⟨3, _⟩ => ⟨S1x1920x8, .f32⟩
  | .hbm, ⟨4, _⟩ => ⟨S1x1920x48x128, .fp8e4m3⟩
  | .hbm, ⟨5, _⟩ => ⟨S1x1920x48, .f32⟩
  | .hbm, ⟨6, _⟩ => ⟨S1x1920x8x128, .fp8e4m3⟩
  | .hbm, ⟨7, _⟩ => ⟨S1x1920x8, .f32⟩
  | .hbm, ⟨8, _⟩ => ⟨S128, .f32⟩
  | .hbm, ⟨9, _⟩ => ⟨S128, .f32⟩
  | .hbm, ⟨10, _⟩ => ⟨S1x1920, .i32⟩
  | .hbm, ⟨11, _⟩ => ⟨S1x128, .f32⟩
  | .hbm, ⟨12, _⟩ => ⟨S1x128, .f32⟩
  | .hbm, ⟨13, _⟩ => ⟨S1x1920x1, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S128, .f32⟩
  | .hbm, ⟨26, _⟩ => ⟨S1x128, .f32⟩
  | .hbm, ⟨27, _⟩ => ⟨S1x1920x48x128, .bf16⟩
  | .hbm, ⟨28, _⟩ => ⟨S1x1920x8x128, .bf16⟩
  | .hbm, ⟨29, _⟩ => ⟨S1x128, .f32⟩
  | .hbm, ⟨30, _⟩ => ⟨S1x128, .f32⟩
  | .local _ .vmem, ⟨0, _⟩ => ⟨S1x64x48x128, .fp8e5m2⟩
  | .local _ .vmem, ⟨1, _⟩ => ⟨S1x64x48x128, .fp8e5m2⟩
  | .local _ .vmem, ⟨2, _⟩ => ⟨S1x64x48, .f32⟩
  | .local _ .vmem, ⟨3, _⟩ => ⟨S1x64x48, .f32⟩
  | .local _ .vmem, ⟨4, _⟩ => ⟨S1x64x8x128, .fp8e5m2⟩
  | .local _ .vmem, ⟨5, _⟩ => ⟨S1x64x8x128, .fp8e5m2⟩
  | .local _ .vmem, ⟨6, _⟩ => ⟨S1x64x8, .f32⟩
  | .local _ .vmem, ⟨7, _⟩ => ⟨S1x64x8, .f32⟩
  | .local _ .vmem, ⟨8, _⟩ => ⟨S1x64x48x128, .fp8e4m3⟩
  | .local _ .vmem, ⟨9, _⟩ => ⟨S1x64x48x128, .fp8e4m3⟩
  | .local _ .vmem, ⟨10, _⟩ => ⟨S1x64x48, .f32⟩
  | .local _ .vmem, ⟨11, _⟩ => ⟨S1x64x48, .f32⟩
  | .local _ .vmem, ⟨12, _⟩ => ⟨S1x64x8x128, .fp8e4m3⟩
  | .local _ .vmem, ⟨13, _⟩ => ⟨S1x64x8x128, .fp8e4m3⟩
  | .local _ .vmem, ⟨14, _⟩ => ⟨S1x64x8, .f32⟩
  | .local _ .vmem, ⟨15, _⟩ => ⟨S1x64x8, .f32⟩
  | .local _ .vmem, ⟨16, _⟩ => ⟨S1x128, .f32⟩
  | .local _ .vmem, ⟨17, _⟩ => ⟨S1x128, .f32⟩
  | .local _ .vmem, ⟨18, _⟩ => ⟨S1x64x1, .i32⟩
  | .local _ .vmem, ⟨19, _⟩ => ⟨S1x64x1, .i32⟩
  | .local _ .vmem, ⟨20, _⟩ => ⟨S1x128, .f32⟩
  | .local _ .vmem, ⟨21, _⟩ => ⟨S1x64x48x128, .bf16⟩
  | .local _ .vmem, ⟨22, _⟩ => ⟨S1x64x48x128, .bf16⟩
  | .local _ .vmem, ⟨23, _⟩ => ⟨S1x64x8x128, .bf16⟩
  | .local _ .vmem, ⟨24, _⟩ => ⟨S1x64x8x128, .bf16⟩
  | .local _ .vmem, ⟨25, _⟩ => ⟨S1x128, .f32⟩
  | .local _ .vmem, ⟨26, _⟩ => ⟨S1x128, .f32⟩
  | _, _ => ⟨S1x1920x48x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![30], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x48x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x8x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x48x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x64x48x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x8x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1x1920x48x128 : Shape := ⟨4, ![1, 1920, 48, 128]⟩
abbrev S1x1920x48 : Shape := ⟨3, ![1, 1920, 48]⟩
abbrev S1x1920x8x128 : Shape := ⟨4, ![1, 1920, 8, 128]⟩
abbrev S1x1920x8 : Shape := ⟨3, ![1, 1920, 8]⟩
abbrev S128 : Shape := ⟨1, ![128]⟩
abbrev S1x1920 : Shape := ⟨2, ![1, 1920]⟩
abbrev S64 : Shape := ⟨1, ![64]⟩
abbrev S_ : Shape := ⟨0, ![]⟩
abbrev S1x1920x1 : Shape := ⟨3, ![1, 1920, 1]⟩
abbrev S1x1x64 : Shape := ⟨3, ![1, 1, 64]⟩
abbrev S1x1920x64 : Shape := ⟨3, ![1, 1920, 64]⟩
abbrev S1x1920x1x64 : Shape := ⟨4, ![1, 1920, 1, 64]⟩
abbrev S1x128 : Shape := ⟨2, ![1, 128]⟩
abbrev S1x1920x48x1 : Shape := ⟨4, ![1, 1920, 48, 1]⟩
abbrev S1x1920x8x1 : Shape := ⟨4, ![1, 1920, 8, 1]⟩
abbrev S1x1920x48x64 : Shape := ⟨4, ![1, 1920, 48, 64]⟩
abbrev S1x1x1x128 : Shape := ⟨4, ![1, 1, 1, 128]⟩
abbrev S1x1920x8x64 : Shape := ⟨4, ![1, 1920, 8, 64]⟩

abbrev nBuf : Space → Nat
  | .hbm => 36
  | .vmem => 16
  | .smem => 0
  | _ => 0

abbrev bufTy : (tb : Table) → Fin (tcTables nBuf tb) → BufTy
  | .hbm, ⟨0, _⟩ => ⟨S1x1920x48x128, .fp8e5m2⟩
  | .hbm, ⟨1, _⟩ => ⟨S1x1920x48, .f32⟩
  | .hbm, ⟨2, _⟩ => ⟨S1x1920x8x128, .fp8e5m2⟩
  | .hbm, ⟨3, _⟩ => ⟨S1x1920x8, .f32⟩
  | .hbm, ⟨4, _⟩ => ⟨S1x1920x48x128, .fp8e4m3⟩
  | .hbm, ⟨5, _⟩ => ⟨S1x1920x48, .f32⟩
  | .hbm, ⟨6, _⟩ => ⟨S1x1920x8x128, .fp8e4m3⟩
  | .hbm, ⟨7, _⟩ => ⟨S1x1920x8, .f32⟩
  | .hbm, ⟨8, _⟩ => ⟨S128, .f32⟩
  | .hbm, ⟨9, _⟩ => ⟨S128, .f32⟩
  | .hbm, ⟨10, _⟩ => ⟨S1x1920, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x1920, .f32⟩
  | .hbm, ⟨23, _⟩ => ⟨S1x1920x1, .f32⟩
  | .hbm, ⟨24, _⟩ => ⟨S1x1x64, .f32⟩
  | .hbm, ⟨25, _⟩ => ⟨S1x1920x64, .f32⟩
  | .hbm, ⟨26, _⟩ => ⟨S1x1920x64, .f32⟩
  | .hbm, ⟨27, _⟩ => ⟨S1x1920x64, .f32⟩
  | .hbm, ⟨28, _⟩ => ⟨S1x1920x64, .f32⟩
  | .hbm, ⟨29, _⟩ => ⟨S1x1920x1x64, .f32⟩
  | .hbm, ⟨30, _⟩ => ⟨S1x1920x64, .f32⟩
  | .hbm, ⟨31, _⟩ => ⟨S1x1920x1x64, .f32⟩
  | .hbm, ⟨32, _⟩ => ⟨S1x1920x48x128, .bf16⟩
  | .hbm, ⟨33, _⟩ => ⟨S1x1920x8x128, .bf16⟩
  | .hbm, ⟨34, _⟩ => ⟨S1x128, .f32⟩
  | .hbm, ⟨35, _⟩ => ⟨S1x128, .f32⟩
  | .local _ .vmem, ⟨0, _⟩ => ⟨S1x1920x48x128, .fp8e5m2⟩
  | .local _ .vmem, ⟨1, _⟩ => ⟨S1x1920x48, .f32⟩
  | .local _ .vmem, ⟨2, _⟩ => ⟨S1x1920x8x128, .fp8e5m2⟩
  | .local _ .vmem, ⟨3, _⟩ => ⟨S1x1920x8, .f32⟩
  | .local _ .vmem, ⟨4, _⟩ => ⟨S1x1920x48x128, .fp8e4m3⟩
  | .local _ .vmem, ⟨5, _⟩ => ⟨S1x1920x48, .f32⟩
  | .local _ .vmem, ⟨6, _⟩ => ⟨S1x1920x8x128, .fp8e4m3⟩
  | .local _ .vmem, ⟨7, _⟩ => ⟨S1x1920x8, .f32⟩
  | .local _ .vmem, ⟨8, _⟩ => ⟨S128, .f32⟩
  | .local _ .vmem, ⟨9, _⟩ => ⟨S128, .f32⟩
  | .local _ .vmem, ⟨10, _⟩ => ⟨S1x1920x1x64, .f32⟩
  | .local _ .vmem, ⟨11, _⟩ => ⟨S1x1920x1x64, .f32⟩
  | .local _ .vmem, ⟨12, _⟩ => ⟨S1x1920x48x128, .bf16⟩
  | .local _ .vmem, ⟨13, _⟩ => ⟨S1x1920x8x128, .bf16⟩
  | .local _ .vmem, ⟨14, _⟩ => ⟨S1x128, .f32⟩
  | .local _ .vmem, ⟨15, _⟩ => ⟨S1x128, .f32⟩
  | _, _ => ⟨S1x1920x48x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1x1920x48x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1920x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1920x8x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1920x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1920x48x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1920x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1920x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1920x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1920x1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1920x1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1920x48x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1920x8x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.Spec.lean ====
/-
  The mathematics of the backward pass, over the extended reals, for one token and one head at a time.

  A head row has 128 lanes. The gradient row `y` is turned back through the rotary embedding (`unrot`), the input row `x`
  is normalised by its root mean square (`rstd`, `xhat`), and from these come the gradient of the gain (`gradGain`, still
  to be summed over tokens and heads) and the gradient of the input (`gradIn`). The arrays of a program are read through
  `deq` (codes times scale), `dx` (the input gradient of every token and head) and `dg` (the gain gradient of every lane).
  Nothing here mentions a program; the number of tokens and of heads are parameters, so that one block of the kernel and
  the whole array of the reference are instances of the same definitions.
-/
module

public import Idealize.ShloMosaic.Lib.Pipeline.ValueKit
public import Idealize.ShloMosaic.Lib.Pointwise

@[expose] public section

noncomputable section

namespace Cert.QkNorm

open Idealize.ShloMosaic

/-- The number of lanes of a head row, 128, as the programs write it. -/
def lanes : EReal := Ideal.ofBits .f32 1124073472#32

/-- The constant added to the mean square, the f32 nearest `1e-6`. -/
def eps : EReal := Ideal.ofBits .f32 897988541#32

/-- The rotary embedding undone on one row: with `C k` and `S k` the cosine and sine of lane pair `(k, k + 64)`, the pair
    `(y k, y (k + 64))` becomes `(y k * C k + y (k + 64) * S k, y (k + 64) * C k - y k * S k)`. -/
def unrot (C S : Fin 64 → EReal) (y : Fin 128 → EReal) (d : Fin 128) : EReal :=
  if h : d.val < 64 then
    y d * C ⟨d.val, h⟩ + y ⟨64 + d.val, by omega⟩ * S ⟨d.val, h⟩
  else
    y d * C ⟨d.val - 64, by omega⟩ - y ⟨d.val - 64, by omega⟩ * S ⟨d.val - 64, by omega⟩

/-- One over the root mean square of a row. -/
def rstd (x : Fin 128 → EReal) : EReal := Ideal.rsqrt (Ideal.div (∑ l, x l * x l) lanes + eps)

/-- A row normalised by its root mean square. -/
def xhat (x : Fin 128 → EReal) (d : Fin 128) : EReal := x d * rstd x

/-- What one row adds to the gradient of the gain at lane `d`. -/
def gradGain (dn x : Fin 128 → EReal) (d : Fin 128) : EReal := dn d * xhat x d

/-- The gradient of one input row at lane `d`: `g` is the gain, `dn` the gradient of the normalised row. -/
def gradIn (g dn x : Fin 128 → EReal) (d : Fin 128) : EReal :=
  rstd x * (dn d * g d - xhat x d * Ideal.div (∑ l, dn l * g l * xhat x l) lanes)

section Arrays
variable {T H : ℕ}

/-- Row `(t, h)` of an array stored as codes and one scale per row. -/
def deq (a : (⟨4, ![1, T, H, 128]⟩ : Shape).Idx → EReal) (s : (⟨3, ![1, T, H]⟩ : Shape).Idx → EReal)
    (t : Fin T) (h : Fin H) (l : Fin 128) : EReal :=
  a (ix4 0 t h l) * s (ix3 0 t h)

/-- The input gradient at token `t`, head `h`, lane `d`: `y` and `ys` hold the incoming gradient, `x` and `xs` the input. -/
def dxAt (g : Fin 128 → EReal) (C S : Fin T → Fin 64 → EReal)
    (y : (⟨4, ![1, T, H, 128]⟩ : Shape).Idx → EReal) (ys : (⟨3, ![1, T, H]⟩ : Shape).Idx → EReal)
    (x : (⟨4, ![1, T, H, 128]⟩ : Shape).Idx → EReal) (xs : (⟨3, ![1, T, H]⟩ : Shape).Idx → EReal)
    (t : Fin T) (h : Fin H) (d : Fin 128) : EReal :=
  gradIn g (unrot (C t) (S t) (deq y ys t h)) (deq x xs t h) d

/-- The array of all input gradients. -/
def dx (g : Fin 128 → EReal) (C S : Fin T → Fin 64 → EReal)
    (y : (⟨4, ![1, T, H, 128]⟩ : Shape).Idx → EReal) (ys : (⟨3, ![1, T, H]⟩ : Shape).Idx → EReal)
    (x : (⟨4, ![1, T, H, 128]⟩ : Shape).Idx → EReal) (xs : (⟨3, ![1, T, H]⟩ : Shape).Idx → EReal) :
    (⟨4, ![1, T, H, 128]⟩ : Shape).Idx → EReal :=
  fun j => dxAt g C S y ys x xs (j 1) (j 2) (j 3)

/-- What token `t` adds to the gain gradient at lane `d`: the sum over its heads. -/
def dgAt (C S : Fin T → Fin 64 → EReal)
    (y : (⟨4, ![1, T, H, 128]⟩ : Shape).Idx → EReal) (ys : (⟨3, ![1, T, H]⟩ : Shape).Idx → EReal)
    (x : (⟨4, ![1, T, H, 128]⟩ : Shape).Idx → EReal) (xs : (⟨3, ![1, T, H]⟩ : Shape).Idx → EReal)
    (t : Fin T) (d : Fin 128) : EReal :=
  ∑ h, gradGain (unrot (C t) (S t) (deq y ys t h)) (deq x xs t h) d

/-- The gain gradient, as a one-row array: the sum over all tokens and heads. -/
def dg (C S : Fin T → Fin 64 → EReal)
    (y : (⟨4, ![1, T, H, 128]⟩ : Shape).Idx → EReal) (ys : (⟨3, ![1, T, H]⟩ : Shape).Idx → EReal)
    (x : (⟨4, ![1, T, H, 128]⟩ : Shape).Idx → EReal) (xs : (⟨3, ![1, T, H]⟩ : Shape).Idx → EReal) :
    (⟨2, ![1, 128]⟩ : Shape).Idx → EReal :=
  fun j => ∑ t, dgAt C S y ys x xs t (j 1)

end Arrays

/-- The cosine table: token `t` at position `p t`, frequency `f k`. -/
def cosTab {T : ℕ} (p : Fin T → EReal) (f : Fin 64 → EReal) (t : Fin T) (k : Fin 64) : EReal := Ideal.cos (p t * f k)

/-- The sine table. -/
def sinTab {T : ℕ} (p : Fin T → EReal) (f : Fin 64 → EReal) (t : Fin T) (k : Fin 64) : EReal := Ideal.sin (p t * f k)

/-- The rotary frequency of lane pair `k`: `1000000 ^ (-(2 k / 128))`. -/
def freq (k : Fin 64) : EReal :=
  Ideal.pow (Ideal.ofBits .f32 1232348160#32)
    (-(Ideal.div (Ideal.ofBits .f32 1073741824#32 * (FloatOps.sitofp (F := Ideal) .f32 (BitVec.ofNat 32 k.val))) lanes))

/-- The positions of the tokens as numbers. -/
def pos {T : ℕ} (p : (⟨2, ![1, T]⟩ : Shape).Idx → BitVec 32) (t : Fin T) : EReal :=
  FloatOps.sitofp (F := Ideal) .f32 (p (ix2 0 t))

/-- The lane pair of lane `d`: lanes `d` and `d + 64` share one. -/
def pair (d : Fin 128) : Fin 64 := ⟨d.val % 64, Nat.mod_lt _ (by decide)⟩

/-- The rotation undone by one half-row roll: `y d * cos + y (d + 64 mod 128) * (± sin)`, the sine taken with a minus sign
    on the upper 64 lanes, is `unrot`. -/
theorem roll_eq_unrot (p : EReal) (f : Fin 64 → EReal) (y : Fin 128 → EReal) (d : Fin 128) (fd s : EReal)
    (hfd : fd = f (pair d))
    (hs : s = if d.val < 64 then Ideal.sin (p * fd) else 0 - Ideal.sin (p * fd)) :
    y d * Ideal.cos (p * fd) + y ⟨(d.val + 128 - 64) % 128, by omega⟩ * s
      = unrot (fun k => Ideal.cos (p * f k)) (fun k => Ideal.sin (p * f k)) y d := by
  subst hs hfd
  unfold unrot
  by_cases h : d.val < 64
  · have e1 : (⟨(d.val + 128 - 64) % 128, by omega⟩ : Fin 128) = ⟨64 + d.val, by omega⟩ := Fin.ext (by simp only; omega)
    have e2 : pair d = ⟨d.val, h⟩ := Fin.ext (Nat.mod_eq_of_lt h)
    rw [dif_pos h, if_pos h, e1, e2]
  · have e1 : (⟨(d.val + 128 - 64) % 128, by omega⟩ : Fin 128) = ⟨d.val - 64, by omega⟩ := Fin.ext (by simp only; omega)
    have e2 : pair d = ⟨d.val - 64, by omega⟩ := Fin.ext (by simp only [pair]; omega)
    rw [dif_neg h, if_neg h, e1, e2, zero_sub, mul_neg, ← sub_eq_add_neg]

end Cert.QkNorm
-- ==== Proof.KernelBlock.lean ====
/-
  What the kernel's body computes on one block of 64 tokens, read at one token, head and lane: the definitions of
  `Spec` at 64 tokens. The query rows (48 heads) and the key rows (8 heads) go through the same formulas.
-/
module

public import proofs.«01_k».proof.Proof.Gen.KernelIdeal.Skeleton
public import proofs.«01_k».proof.Proof.Spec

@[expose] public section

set_option maxRecDepth 16384

noncomputable section

namespace Cert.QkNorm.Kernel

open Idealize.ShloMosaic Cert.KernelIdeal Cert.KernelIdeal.Gen

/-- The positions of a block's 64 tokens. -/
def posB (v3 : Vec Ideal S1x64x1 .i32) (t : Fin 64) : EReal := FloatOps.sitofp (F := Ideal) .f32 (v3 (ix3 0 t 0))

/-- The gain row a block reads. -/
def gainB (v : Vec Ideal S1x128 .f32) (l : Fin 128) : EReal := v (ix2 0 l)

/-- The sign mask of the sine: lane `d` is below 64, or the sine is negated. -/
theorem select_lane (d : Fin 128) (a b : EReal) :
    Scalar.select (IntOp.cmpi CmpIPredicate.slt (BitVec.ofNat 32 d.val) 64#32) a b = if d.val < 64 then a else b := by
  have h : ∀ d : Fin 128, IntOp.cmpi CmpIPredicate.slt (BitVec.ofNat 32 d.val) 64#32 = if d.val < 64 then 1#1 else 0#1 := by
    decide +kernel
  rw [h d]
  split <;> rfl

variable (v3 : Vec Ideal S1x64x1 .i32) (v6 : Vec Ideal S1x128 .f32) (f : Fin 64 → EReal)
  (hf : ∀ d : Fin 128, v6 (ix2 0 d) = f (pair d))

include hf in
/-- The query gradient turned back through the rotary embedding, at token `t`, head `h`, lane `d`. -/
theorem dn_q (v24 : Vec Ideal S1x64x48x128 .fp8e5m2) (v27 : Vec Ideal S1x64x48 .f32) (t : Fin 64) (h : Fin 48) (d : Fin 128) :
    k0_pay12 (k0_pay6 v3 v6) (k0_pay7 v3 v6) (k0_pay9 v24 v27) (ix3 t h d)
      = unrot (cosTab (posB v3) f t) (sinTab (posB v3) f t) (deq v24 v27 t h) d := by
  refine Eq.trans ?_ (roll_eq_unrot (posB v3 t) f (deq v24 v27 t h) d _ _ (hf d) rfl)
  pointwise [k0_pay12, k0_pay6, k0_pay7, k0_pay5, k0_pay9]
  rw [select_lane]
  rfl

include hf in
/-- The key gradient turned back through the rotary embedding, at token `t`, head `h`, lane `d`. -/
theorem dn_k (v83 : Vec Ideal S1x64x8x128 .fp8e5m2) (v86 : Vec Ideal S1x64x8 .f32) (t : Fin 64) (h : Fin 8) (d : Fin 128) :
    k0_pay20 (k0_pay6 v3 v6) (k0_pay7 v3 v6) v83 v86 (ix3 t h d)
      = unrot (cosTab (posB v3) f t) (sinTab (posB v3) f t) (deq v83 v86 t h) d := by
  refine Eq.trans ?_ (roll_eq_unrot (posB v3 t) f (deq v83 v86 t h) d _ _ (hf d) rfl)
  pointwise [k0_pay20, k0_pay6, k0_pay7, k0_pay5]
  rw [select_lane]
  rfl

/-- One over the root mean square of a query row. -/
theorem rstd_q (v32 : Vec Ideal S1x64x48x128 .fp8e4m3) (v35 : Vec Ideal S1x64x48 .f32) (t : Fin 64) (h : Fin 48) :
    k0_pay13 (k0_pay10 v32) v35 (ix3 t h 0) = rstd (deq v32 v35 t h) := by
  pointwise [k0_pay13, k0_pay11, k0_pay10]
  rfl

/-- One over the root mean square of a key row. -/
theorem rstd_k (v91 : Vec Ideal S1x64x8x128 .fp8e4m3) (v94 : Vec Ideal S1x64x8 .f32) (t : Fin 64) (h : Fin 8) :
    k0_pay21 v91 v94 (ix3 t h 0) = rstd (deq v91 v94 t h) := by
  pointwise [k0_pay21, k0_pay19]
  rfl

/-- A normalised query row. -/
theorem xhat_q (v32 : Vec Ideal S1x64x48x128 .fp8e4m3) (v35 : Vec Ideal S1x64x48 .f32) (t : Fin 64) (h : Fin 48) (d : Fin 128) :
    k0_pay14 (k0_pay10 v32) v35 (ix3 t h d) = xhat (deq v32 v35 t h) d := by
  unfold xhat
  rw [← rstd_q]
  pointwise [k0_pay14, k0_pay11, k0_pay10]
  rfl

/-- A normalised key row. -/
theorem xhat_k (v91 : Vec Ideal S1x64x8x128 .fp8e4m3) (v94 : Vec Ideal S1x64x8 .f32) (t : Fin 64) (h : Fin 8) (d : Fin 128) :
    k0_pay22 v91 v94 (ix3 t h d) = xhat (deq v91 v94 t h) d := by
  unfold xhat
  rw [← rstd_k]
  pointwise [k0_pay22, k0_pay19]
  rfl

include hf in
/-- The block of query input gradients the body stores. -/
theorem dx_q (v21 : Vec Ideal S1x128 .f32) (v24 : Vec Ideal S1x64x48x128 .fp8e5m2) (v27 : Vec Ideal S1x64x48 .f32)
    (v32 : Vec Ideal S1x64x48x128 .fp8e4m3) (v35 : Vec Ideal S1x64x48 .f32) (t : Fin 64) (h : Fin 48) (d : Fin 128) :
    k0_pay17 (k0_pay16 (k0_pay6 v3 v6) (k0_pay7 v3 v6) (k0_pay8 v21) (k0_pay9 v24 v27) (k0_pay10 v32) v35) (ix4 0 t h d)
      = dxAt (gainB v21) (cosTab (posB v3) f) (sinTab (posB v3) f) v24 v27 v32 v35 t h d := by
  pointwise [k0_pay17, k0_pay16]
  simp only [rstd_q, xhat_q, dn_q v3 v6 f hf]
  pointwise [k0_pay8]
  rfl

include hf in
/-- The block of key input gradients the body stores. -/
theorem dx_k (v80 : Vec Ideal S1x128 .f32) (v83 : Vec Ideal S1x64x8x128 .fp8e5m2) (v86 : Vec Ideal S1x64x8 .f32)
    (v91 : Vec Ideal S1x64x8x128 .fp8e4m3) (v94 : Vec Ideal S1x64x8 .f32) (t : Fin 64) (h : Fin 8) (d : Fin 128) :
    k0_pay2 (k0_pay18 v80) (k0_pay20 (k0_pay6 v3 v6) (k0_pay7 v3 v6) v83 v86) (k0_pay21 v91 v94) (k0_pay22 v91 v94) (ix4 0 t h d)
      = dxAt (gainB v80) (cosTab (posB v3) f) (sinTab (posB v3) f) v83 v86 v91 v94 t h d := by
  pointwise [k0_pay2]
  simp only [rstd_k, xhat_k, dn_k v3 v6 f hf]
  pointwise [k0_pay18]
  rfl

include hf in
/-- The query gain gradient after the block: what was there before, plus the block's sum over tokens and heads. -/
theorem dg_q (v24 : Vec Ideal S1x64x48x128 .fp8e5m2) (v27 : Vec Ideal S1x64x48 .f32)
    (v32 : Vec Ideal S1x64x48x128 .fp8e4m3) (v35 : Vec Ideal S1x64x48 .f32) (v56 : Vec Ideal S1x128 .f32) (d : Fin 128) :
    k0_pay15 (k0_pay6 v3 v6) (k0_pay7 v3 v6) (k0_pay9 v24 v27) (k0_pay10 v32) v35 v56 (ix2 0 d)
      = v56 (ix2 0 d) + ∑ t, dgAt (cosTab (posB v3) f) (sinTab (posB v3) f) v24 v27 v32 v35 t d := by
  pointwise [k0_pay15]
  simp only [xhat_q, dn_q v3 v6 f hf]
  rw [Finset.sum_comm]
  rfl

include hf in
/-- The key gain gradient after the block: what was there before, plus the block's sum over tokens and heads. -/
theorem dg_k (v83 : Vec Ideal S1x64x8x128 .fp8e5m2) (v86 : Vec Ideal S1x64x8 .f32)
    (v91 : Vec Ideal S1x64x8x128 .fp8e4m3) (v94 : Vec Ideal S1x64x8 .f32) (v115 : Vec Ideal S1x128 .f32) (d : Fin 128) :
    k0_pay1 (k0_pay20 (k0_pay6 v3 v6) (k0_pay7 v3 v6) v83 v86) (k0_pay22 v91 v94) v115 (ix2 0 d)
      = v115 (ix2 0 d) + ∑ t, dgAt (cosTab (posB v3) f) (sinTab (posB v3) f) v83 v86 v91 v94 t d := by
  pointwise [k0_pay1]
  simp only [xhat_k, dn_k v3 v6 f hf]
  rw [Finset.sum_comm]
  rfl

end Cert.QkNorm.Kernel
-- ==== Proof.KernelRead.lean ====
/-
  What the kernel's body reads at grid point `t`: token `s` of the block is token `64 * t + s` of the arrays.
-/
module

public import proofs.«01_k».proof.Proof.Gen.KernelIdeal.Frame
public import proofs.«01_k».proof.Proof.KernelBlock

@[expose] public section

set_option maxRecDepth 16384

noncomputable section

namespace Cert.QkNorm.Kernel

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Token `s` of block `t`, among all 1920. -/
def tok (t : Fin cfg0.N) (s : Fin 64) : Fin 1920 :=
  ⟨t.val * 64 + s.val, by have : t.val < 30 := lt_of_lt_of_eq t.isLt N_0; omega⟩

/-- Where each window's block lies: the eight quantised operands, the positions and the two input gradients move with the
    grid point, the gains, the frequencies and the two gain gradients stay. -/
theorem idx : ∀ t : Fin cfg0.N,
    win0_0.index t = ![0, t.val, 0, 0] ∧ win0_1.index t = ![0, t.val, 0] ∧ win0_2.index t = ![0, t.val, 0, 0]
      ∧ win0_3.index t = ![0, t.val, 0] ∧ win0_4.index t = ![0, t.val, 0, 0] ∧ win0_5.index t = ![0, t.val, 0]
      ∧ win0_6.index t = ![0, t.val, 0, 0] ∧ win0_7.index t = ![0, t.val, 0] ∧ win0_8.index t = ![0, 0]
      ∧ win0_9.index t = ![0, 0] ∧ win0_10.index t = ![0, t.val, 0] ∧ win0_11.index t = ![0, 0]
      ∧ win0_12.index t = ![0, t.val, 0, 0] ∧ win0_13.index t = ![0, t.val, 0, 0]
      ∧ win0_14.index t = ![0, 0] ∧ win0_15.index t = ![0, 0] :=
  (by decide +kernel : ∀ t : Fin grid0.N, _)

section Rows
variable (t : Fin cfg0.N) (s : Fin 64)

/-- The incoming query gradient, dequantised. -/
theorem read_dq (h : Fin 48) :
    deq (T := 64) (H := 48) (iblk m c 0 t) (iblk m c 1 t) s h
      = deq (T := 1920) (H := 48) (m ((c : Thread nD τ).loc main_arg0)) (m ((c : Thread nD τ).loc main_arg1)) (tok t s) h := by
  funext l
  unfold deq
  blk_point [iblk, V, idx t, tok]

/-- The incoming key gradient, dequantised. -/
theorem read_dk (h : Fin 8) :
    deq (T := 64) (H := 8) (iblk m c 2 t) (iblk m c 3 t) s h
      = deq (T := 1920) (H := 8) (m ((c : Thread nD τ).loc main_arg2)) (m ((c : Thread nD τ).loc main_arg3)) (tok t s) h := by
  funext l
  unfold deq
  blk_point [iblk, V, idx t, tok]

/-- The queries, dequantised. -/
theorem read_q (h : Fin 48) :
    deq (T := 64) (H := 48) (iblk m c 4 t) (iblk m c 5 t) s h
      = deq (T := 1920) (H := 48) (m ((c : Thread nD τ).loc main_arg4)) (m ((c : Thread nD τ).loc main_arg5)) (tok t s) h := by
  funext l
  unfold deq
  blk_point [iblk, V, idx t, tok]

/-- The keys, dequantised. -/
theorem read_k (h : Fin 8) :
    deq (T := 64) (H := 8) (iblk m c 6 t) (iblk m c 7 t) s h
      = deq (T := 1920) (H := 8) (m ((c : Thread nD τ).loc main_arg6)) (m ((c : Thread nD τ).loc main_arg7)) (tok t s) h := by
  funext l
  unfold deq
  blk_point [iblk, V, idx t, tok]

/-- The gain of the queries. -/
theorem read_gq : gainB (iblk m c 8 t) = fun l => (m ((c : Thread nD τ).loc main_arg8)) (ix1 l) := by
  funext l
  unfold gainB
  blk_simp [iblk, idx t]
  entry_read
  pointwise
  blk_ext [idx t]

/-- The gain of the keys. -/
theorem read_gk : gainB (iblk m c 9 t) = fun l => (m ((c : Thread nD τ).loc main_arg9)) (ix1 l) := by
  funext l
  unfold gainB
  blk_simp [iblk, idx t]
  entry_read
  pointwise
  blk_ext [idx t]

/-- The positions: the host reshapes them to a column, and block `t` holds tokens `64 t` to `64 t + 63`. -/
theorem read_pos : posB (iblk m c 10 t) s = pos (T := 1920) (m ((c : Thread nD τ).loc main_arg10)) (tok t s) := by
  have h : (iblk m c 10 t : Vec Ideal S1x64x1 .i32) (ix3 0 s 0)
      = (V m c main_v2 : S1x1920x1.Idx → BitVec 32) (ix3 0 (tok t s) 0) := by
    blk_point [iblk, idx t, tok]
  have h' : (V m c main_v2 : S1x1920x1.Idx → BitVec 32) (ix3 0 (tok t s) 0)
      = (m ((c : Thread nD τ).loc main_arg10) : S1x1920.Idx → BitVec 32) (ix2 0 (tok t s)) := by
    entry_read
    pointwise
  unfold posB pos
  rw [h, h']

/-- The frequencies: the host writes the 64 of them twice, so lane `d` reads the one of lane pair `d mod 64`. -/
theorem read_freq (d : Fin 128) : (iblk m c 11 t : Vec Ideal S1x128 .f32) (ix2 0 d) = freq (pair d) := by
  have h : (iblk m c 11 t : Vec Ideal S1x128 .f32) (ix2 0 d) = (V m c main_v12 : S1x128.Idx → EReal) (ix2 0 d) := by
    blk_point [iblk, idx t]
  rw [h]
  entry_read
  pointwise
  unfold freq lanes pair
  by_cases hd : d.val < 64
  · rw [dif_pos hd]
    simp only [Nat.mod_eq_of_lt hd]
  · have e : d.val % 64 = d.val - 64 := by omega
    rw [dif_neg hd]
    simp only [e]

/-- The cosine table of block `t` is the cosine table of all tokens, at the block's tokens. -/
theorem read_cos : cosTab (posB (iblk m c 10 t)) freq s = cosTab (pos (T := 1920) (m ((c : Thread nD τ).loc main_arg10))) freq (tok t s) := by
  funext k
  unfold cosTab
  rw [read_pos]

/-- The sine table of block `t` is the sine table of all tokens, at the block's tokens. -/
theorem read_sin : sinTab (posB (iblk m c 10 t)) freq s = sinTab (pos (T := 1920) (m ((c : Thread nD τ).loc main_arg10))) freq (tok t s) := by
  funext k
  unfold sinTab
  rw [read_pos]

end Rows

end Cert.QkNorm.Kernel
-- ==== Proof.KernelValue.lean ====
/-
  What the kernel's four result arrays hold after its run: the input gradients of all tokens, block by block, and the gain
  gradients, accumulated over the 30 blocks.
-/
module

public import proofs.«01_k».proof.Proof.KernelRead

@[expose] public section

set_option maxRecDepth 16384

noncomputable section

namespace Cert.QkNorm.Kernel

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cosine table of all tokens. -/
abbrev cosA : Fin 1920 → Fin 64 → EReal := cosTab (pos (T := 1920) (m ((c : Thread nD τ).loc main_arg10))) freq

/-- The sine table of all tokens. -/
abbrev sinA : Fin 1920 → Fin 64 → EReal := sinTab (pos (T := 1920) (m ((c : Thread nD τ).loc main_arg10))) freq

/-- The query input gradients, from the arguments. -/
def dqVal : S1x1920x48x128.Idx → EReal :=
  dx (T := 1920) (H := 48) (fun l => (m ((c : Thread nD τ).loc main_arg8)) (ix1 l)) (cosA m c) (sinA m c)
    (m ((c : Thread nD τ).loc main_arg0)) (m ((c : Thread nD τ).loc main_arg1))
    (m ((c : Thread nD τ).loc main_arg4)) (m ((c : Thread nD τ).loc main_arg5))

/-- The key input gradients, from the arguments. -/
def dkVal : S1x1920x8x128.Idx → EReal :=
  dx (T := 1920) (H := 8) (fun l => (m ((c : Thread nD τ).loc main_arg9)) (ix1 l)) (cosA m c) (sinA m c)
    (m ((c : Thread nD τ).loc main_arg2)) (m ((c : Thread nD τ).loc main_arg3))
    (m ((c : Thread nD τ).loc main_arg6)) (m ((c : Thread nD τ).loc main_arg7))

/-- The gain gradient of the queries, from the arguments. -/
def dgqVal : S1x128.Idx → EReal :=
  dg (T := 1920) (H := 48) (cosA m c) (sinA m c)
    (m ((c : Thread nD τ).loc main_arg0)) (m ((c : Thread nD τ).loc main_arg1))
    (m ((c : Thread nD τ).loc main_arg4)) (m ((c : Thread nD τ).loc main_arg5))

/-- The gain gradient of the keys, from the arguments. -/
def dgkVal : S1x128.Idx → EReal :=
  dg (T := 1920) (H := 8) (cosA m c) (sinA m c)
    (m ((c : Thread nD τ).loc main_arg2)) (m ((c : Thread nD τ).loc main_arg3))
    (m ((c : Thread nD τ).loc main_arg6)) (m ((c : Thread nD τ).loc main_arg7))

/-- The query block the body stores at point `t` is block `t` of the query input gradients. -/
theorem block_dq (t : Fin cfg0.N) (y : S1x64x48x128.Idx) :
    k0_pay17 (k0_pay16 (k0_pay6 (iblk m c 10 t) (iblk m c 11 t)) (k0_pay7 (iblk m c 10 t) (iblk m c 11 t))
        (k0_pay8 (iblk m c 8 t)) (k0_pay9 (iblk m c 0 t) (iblk m c 1 t)) (k0_pay10 (iblk m c 4 t)) (iblk m c 5 t)) y
      = dqVal m c (((cfg0.win 12).blk t).view.emb y) := by
  have he : ((cfg0.win 12).blk t).view.emb y = ix4 0 (tok t (y 1)) (y 2) (y 3) := by
    blk_ext [idx t, tok]
  rw [he]
  idx_vars y
  obtain rfl : y0 = 0 := Subsingleton.elim _ _
  refine (dx_q _ _ freq (read_freq m c t) _ _ _ _ _ _ _ _).trans ?_
  unfold dqVal dx dxAt
  rw [read_gq, read_cos, read_sin, read_dq, read_q]
  rfl

/-- The key block the body stores at point `t` is block `t` of the key input gradients. -/
theorem block_dk (t : Fin cfg0.N) (y : S1x64x8x128.Idx) :
    k0_pay2 (k0_pay18 (iblk m c 9 t)) (k0_pay20 (k0_pay6 (iblk m c 10 t) (iblk m c 11 t)) (k0_pay7 (iblk m c 10 t) (iblk m c 11 t))
        (iblk m c 2 t) (iblk m c 3 t)) (k0_pay21 (iblk m c 6 t) (iblk m c 7 t)) (k0_pay22 (iblk m c 6 t) (iblk m c 7 t)) y
      = dkVal m c (((cfg0.win 13).blk t).view.emb y) := by
  have he : ((cfg0.win 13).blk t).view.emb y = ix4 0 (tok t (y 1)) (y 2) (y 3) := by
    blk_ext [idx t, tok]
  rw [he]
  idx_vars y
  obtain rfl : y0 = 0 := Subsingleton.elim _ _
  refine (dx_k _ _ freq (read_freq m c t) _ _ _ _ _ _ _ _).trans ?_
  unfold dkVal dx dxAt
  rw [read_gk, read_cos, read_sin, read_dk, read_k]
  rfl

/-- After the run the first result holds the query input gradients. -/
theorem final_dq : (dats m 0 c).arrAt 12 cfg0.N = dqVal m c := by
  refine (dats m 0 c).arrAt_eq_of_covers 12 _ (by decide +kernel) fun t hf y => ?_
  blk_simp
  rw [after0_12]
  by_cases h : t.val % 30 = 0
  · rw [outsAt0_A m c t h]; frame_out; exact block_dq m c t y
  · rw [outsAt0_B m c t h]; frame_out; exact block_dq m c t y

/-- After the run the second result holds the key input gradients. -/
theorem final_dk : (dats m 0 c).arrAt 13 cfg0.N = dkVal m c := by
  refine (dats m 0 c).arrAt_eq_of_covers 13 _ (by decide +kernel) fun t hf y => ?_
  blk_simp
  rw [after0_13]
  by_cases h : t.val % 30 = 0
  · rw [outsAt0_A m c t h]; frame_out; exact block_dk m c t y
  · rw [outsAt0_B m c t h]; frame_out; exact block_dk m c t y

/-- What point `t` adds to the query gain gradient at an index. -/
def termQ (t : Fin cfg0.N) (j : S1x128.Idx) : EReal :=
  ∑ s : Fin 64, dgAt (T := 1920) (H := 48) (cosA m c) (sinA m c)
    (m ((c : Thread nD τ).loc main_arg0)) (m ((c : Thread nD τ).loc main_arg1))
    (m ((c : Thread nD τ).loc main_arg4)) (m ((c : Thread nD τ).loc main_arg5)) (tok t s) (j 1)

/-- What point `t` adds to the key gain gradient at an index. -/
def termK (t : Fin cfg0.N) (j : S1x128.Idx) : EReal :=
  ∑ s : Fin 64, dgAt (T := 1920) (H := 8) (cosA m c) (sinA m c)
    (m ((c : Thread nD τ).loc main_arg2)) (m ((c : Thread nD τ).loc main_arg3))
    (m ((c : Thread nD τ).loc main_arg6)) (m ((c : Thread nD τ).loc main_arg7)) (tok t s) (j 1)

/-- The query accumulation at point `t`: what the buffer held plus the point's term. -/
theorem step_gq (t : Fin cfg0.N) (acc : Vec Ideal S1x128 .f32) (j : S1x128.Idx) :
    k0_pay15 (k0_pay6 (iblk m c 10 t) (iblk m c 11 t)) (k0_pay7 (iblk m c 10 t) (iblk m c 11 t))
        (k0_pay9 (iblk m c 0 t) (iblk m c 1 t)) (k0_pay10 (iblk m c 4 t)) (iblk m c 5 t) acc j
      = acc j + termQ m c t j := by
  idx_vars j
  obtain rfl : j0 = 0 := Subsingleton.elim _ _
  refine (dg_q _ _ freq (read_freq m c t) _ _ _ _ _ _).trans ?_
  unfold termQ dgAt
  simp only [read_cos, read_sin, read_dq, read_q]
  rfl

/-- The key accumulation at point `t`: what the buffer held plus the point's term. -/
theorem step_gk (t : Fin cfg0.N) (acc : Vec Ideal S1x128 .f32) (j : S1x128.Idx) :
    k0_pay1 (k0_pay20 (k0_pay6 (iblk m c 10 t) (iblk m c 11 t)) (k0_pay7 (iblk m c 10 t) (iblk m c 11 t))
        (iblk m c 2 t) (iblk m c 3 t)) (k0_pay22 (iblk m c 6 t) (iblk m c 7 t)) acc j
      = acc j + termK m c t j := by
  idx_vars j
  obtain rfl : j0 = 0 := Subsingleton.elim _ _
  refine (dg_k _ _ freq (read_freq m c t) _ _ _ _ _ _).trans ?_
  unfold termK dgAt
  simp only [read_cos, read_sin, read_dk, read_k]
  rfl

/-- Step `s` of the one run of 30 points reads tokens `64 s` to `64 s + 63`. -/
theorem tok_run (t : Fin cfg0.N) (s : Fin 30) (k : Fin 64) {h : 30 * (t.val / 30) + s.val < cfg0.N} (hl : s.val * 64 + k.val < 1920) :
    tok ⟨30 * (t.val / 30) + s.val, h⟩ k = ⟨s.val * 64 + k.val, hl⟩ := by
  have ht : t.val < 30 := lt_of_lt_of_eq t.isLt N_0
  have e : t.val / 30 = 0 := Nat.div_eq_of_lt ht
  apply Fin.ext
  simp only [tok, e, Nat.mul_zero, Nat.zero_add]

/-- The query accumulator starts from zero. -/
theorem zero_gq (j : S1x128.Idx) : (k0_pay3 : FVec Ideal S1x128 .f32) j = 0 := by
  pointwise [k0_pay3]

/-- The key accumulator starts from zero. -/
theorem zero_gk (j : S1x128.Idx) : (k0_pay4 : FVec Ideal S1x128 .f32) j = 0 := by
  pointwise [k0_pay4]

/-- After the run the third result holds the gain gradient of the queries. -/
theorem final_gq : (dats m 0 c).arrAt 14 cfg0.N = dgqVal m c := by
  refine (dats m 0 c).arrAt_eq_of_covers 14 _ (by decide +kernel) fun t hf y => ?_
  blk_simp
  rw [after0_14, Pipeline.eq_sum_fin_of_reset_step_apply_of_flush (fun n h => (outsAt0 m c n h).2.2.1) 30 (fun _ => 0)
    (termQ m c)
    (fun t h j => by rw [outsAt0_A m c t h]; frame_out; rw [step_gq, zero_gq])
    (fun t h j => by rw [outsAt0_B m c t h]; frame_out; rw [step_gq]) t ((flush0_14 t).mp hf) _, zero_add]
  unfold dgqVal dg termQ
  refine Fin.sum_mul_add_congr fun s k hl => ?_
  have h1 : tok ⟨30 * (t.val / 30) + s.val, Pipeline.run_point_lt_of_flush t ((flush0_14 t).mp hf) s⟩ k = ⟨s.val * 64 + k.val, hl⟩ :=
    tok_run t s k hl
  have h2 : (win0_14.blk t).view.emb y = y := by
    blk_ext [idx t]
  rw [h1, h2]

/-- After the run the fourth result holds the gain gradient of the keys. -/
theorem final_gk : (dats m 0 c).arrAt 15 cfg0.N = dgkVal m c := by
  refine (dats m 0 c).arrAt_eq_of_covers 15 _ (by decide +kernel) fun t hf y => ?_
  blk_simp
  rw [after0_15, Pipeline.eq_sum_fin_of_reset_step_apply_of_flush (fun n h => (outsAt0 m c n h).2.2.2) 30 (fun _ => 0)
    (termK m c)
    (fun t h j => by rw [outsAt0_A m c t h]; frame_out; rw [step_gk, zero_gk])
    (fun t h j => by rw [outsAt0_B m c t h]; frame_out; rw [step_gk]) t ((flush0_15 t).mp hf) _, zero_add]
  unfold dgkVal dg termK
  refine Fin.sum_mul_add_congr fun s k hl => ?_
  have h1 : tok ⟨30 * (t.val / 30) + s.val, Pipeline.run_point_lt_of_flush t ((flush0_15 t).mp hf) s⟩ k = ⟨s.val * 64 + k.val, hl⟩ :=
    tok_run t s k hl
  have h2 : (win0_15.blk t).view.emb y = y := by
    blk_ext [idx t]
  rw [h1, h2]

end Cert.QkNorm.Kernel
-- ==== Proof.RefBlock.lean ====
/-
  What the reference's body computes on the whole arrays, read at one token, head and lane: the definitions of `Spec` at
  1920 tokens.
-/
module

public import proofs.«01_k».proof.Proof.Gen.ReferenceIdeal.Skeleton
public import proofs.«01_k».proof.Proof.Spec

@[expose] public section

set_option maxRecDepth 16384

noncomputable section

namespace Cert.QkNorm.Ref

open Idealize.ShloMosaic Cert.ReferenceIdeal Cert.ReferenceIdeal.Gen

/-- A rank-4 array summed over its first three axes, at lane `d` of the last: the triple sum. -/
theorem reduceAdd_012 {n0 n1 n2 n3 : ℕ} (h : (⟨4, ![n0, n1, n2, n3]⟩ : Shape).Reduces [0, 1, 2] ⟨1, ![n3]⟩)
    (v : (⟨4, ![n0, n1, n2, n3]⟩ : Shape).Idx → EReal) (d : Fin n3) :
    Ideal.reduceAdd h v (ix1 d) = ∑ a : Fin n0, ∑ b : Fin n1, ∑ c : Fin n2, v (ix4 a b c d) := by
  have hfib : ∀ i : (⟨4, ![n0, n1, n2, n3]⟩ : Shape).Idx,
      h.drop i = ix1 d ↔ ∃ k : Fin n0 × Fin n1 × Fin n2, ix4 k.1 k.2.1 k.2.2 d = i := by
    intro i
    constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext b
      apply Fin.ext
      match b with
      | ⟨0, _⟩ => rfl
  refine (Finset.sum_filter_eq_sum_of_fiber _ (fun k : Fin n0 × Fin n1 × Fin n2 => ix4 k.1 k.2.1 k.2.2 d)
    (fun _ _ e => Prod.ext (congrFun e 0) (Prod.ext (congrFun e 1) (congrFun e 2))) hfib v).trans ?_
  simp only [Fintype.sum_prod_type]

/-- A rotary table as the body loads it: token `t`, lane pair `k`. -/
def tab (v : Vec Ideal S1x1920x1x64 .f32) (t : Fin 1920) (k : Fin 64) : EReal := v (ix4 0 t 0 k)

/-- The gain the body loads. -/
def gain (v : Vec Ideal S128 .f32) (l : Fin 128) : EReal := v (ix1 l)

/-- The concatenation of the two half rows is `unrot`. -/
theorem concat_eq_unrot (C S : Fin 64 → EReal) (y : Fin 128 → EReal) (d : Fin 128) :
    (if h : d.val < 64 then y d * C ⟨d.val, h⟩ + y ⟨64 + d.val, by omega⟩ * S ⟨d.val, h⟩
      else y ⟨64 + (d.val - 64), by omega⟩ * C ⟨d.val - 64, by omega⟩ - y ⟨d.val - 64, by omega⟩ * S ⟨d.val - 64, by omega⟩)
      = unrot C S y d := by
  unfold unrot
  split
  · rfl
  · have e : (⟨64 + (d.val - 64), by omega⟩ : Fin 128) = d := Fin.ext (by simp only; omega)
    rw [e]

/-- The query gradient turned back through the rotary embedding. -/
theorem dn_q (v0 : Vec Ideal S1x1920x48x128 .fp8e5m2) (v2 : Vec Ideal S1x1920x48 .f32) (v25 v27 : Vec Ideal S1x1920x1x64 .f32)
    (t : Fin 1920) (h : Fin 48) (d : Fin 128) :
    k0_pay8 (k0_pay3 v0 v2) (k0_pay7 v25) v27 (ix4 0 t h d) = unrot (tab v25 t) (tab v27 t) (deq v0 v2 t h) d := by
  rw [← concat_eq_unrot]
  pointwise [k0_pay8, k0_pay3, k0_pay7]
  rfl

/-- The key gradient turned back through the rotary embedding. -/
theorem dn_k (v6 : Vec Ideal S1x1920x8x128 .fp8e5m2) (v8 : Vec Ideal S1x1920x8 .f32) (v70 v72 : Vec Ideal S1x1920x1x64 .f32)
    (t : Fin 1920) (h : Fin 8) (d : Fin 128) :
    k0_pay13 (k0_pay4 v6 v8) v70 v72 (ix4 0 t h d) = unrot (tab v70 t) (tab v72 t) (deq v6 v8 t h) d := by
  rw [← concat_eq_unrot]
  pointwise [k0_pay13, k0_pay4]
  rfl

/-- One over the root mean square of a query row. -/
theorem rstd_q (v12 : Vec Ideal S1x1920x48x128 .fp8e4m3) (v14 : Vec Ideal S1x1920x48 .f32) (t : Fin 1920) (h : Fin 48) :
    k0_pay9 (k0_pay5 v12 v14) (ix4 0 t h 0) = rstd (deq v12 v14 t h) := by
  pointwise [k0_pay9, k0_pay5]
  rfl

/-- One over the root mean square of a key row. -/
theorem rstd_k (v18 : Vec Ideal S1x1920x8x128 .fp8e4m3) (v20 : Vec Ideal S1x1920x8 .f32) (t : Fin 1920) (h : Fin 8) :
    k0_pay14 (k0_pay6 v18 v20) (ix4 0 t h 0) = rstd (deq v18 v20 t h) := by
  pointwise [k0_pay14, k0_pay6]
  rfl

/-- A normalised query row. -/
theorem xhat_q (v12 : Vec Ideal S1x1920x48x128 .fp8e4m3) (v14 : Vec Ideal S1x1920x48 .f32) (t : Fin 1920) (h : Fin 48) (d : Fin 128) :
    k0_pay10 (k0_pay5 v12 v14) (ix4 0 t h d) = xhat (deq v12 v14 t h) d := by
  unfold xhat
  rw [← rstd_q]
  pointwise [k0_pay10, k0_pay5]
  rfl

/-- A normalised key row. -/
theorem xhat_k (v18 : Vec Ideal S1x1920x8x128 .fp8e4m3) (v20 : Vec Ideal S1x1920x8 .f32) (t : Fin 1920) (h : Fin 8) (d : Fin 128) :
    k0_pay15 (k0_pay6 v18 v20) (ix4 0 t h d) = xhat (deq v18 v20 t h) d := by
  unfold xhat
  rw [← rstd_k]
  pointwise [k0_pay15, k0_pay6]
  rfl

/-- The query input gradients. -/
theorem dx_q (v0 : Vec Ideal S1x1920x48x128 .fp8e5m2) (v2 : Vec Ideal S1x1920x48 .f32)
    (v12 : Vec Ideal S1x1920x48x128 .fp8e4m3) (v14 : Vec Ideal S1x1920x48 .f32) (v24 : Vec Ideal S128 .f32)
    (v25 v27 : Vec Ideal S1x1920x1x64 .f32) (t : Fin 1920) (h : Fin 48) (d : Fin 128) :
    k0_pay12 (k0_pay3 v0 v2) (k0_pay5 v12 v14) v24 (k0_pay7 v25) v27 (ix4 0 t h d)
      = dxAt (gain v24) (tab v25) (tab v27) v0 v2 v12 v14 t h d := by
  pointwise [k0_pay12]
  simp only [rstd_q, xhat_q, dn_q]
  rfl

/-- The key input gradients. -/
theorem dx_k (v6 : Vec Ideal S1x1920x8x128 .fp8e5m2) (v8 : Vec Ideal S1x1920x8 .f32)
    (v18 : Vec Ideal S1x1920x8x128 .fp8e4m3) (v20 : Vec Ideal S1x1920x8 .f32) (v69 : Vec Ideal S128 .f32)
    (v70 v72 : Vec Ideal S1x1920x1x64 .f32) (t : Fin 1920) (h : Fin 8) (d : Fin 128) :
    k0_pay17 (k0_pay4 v6 v8) (k0_pay6 v18 v20) v69 v70 v72 (ix4 0 t h d)
      = dxAt (gain v69) (tab v70) (tab v72) v6 v8 v18 v20 t h d := by
  pointwise [k0_pay17]
  simp only [rstd_k, xhat_k, dn_k]
  rfl

/-- The query gain gradient: the sum over all tokens and heads. -/
theorem dg_q (v0 : Vec Ideal S1x1920x48x128 .fp8e5m2) (v2 : Vec Ideal S1x1920x48 .f32)
    (v12 : Vec Ideal S1x1920x48x128 .fp8e4m3) (v14 : Vec Ideal S1x1920x48 .f32)
    (v25 v27 : Vec Ideal S1x1920x1x64 .f32) (d : Fin 128) :
    k0_pay1 (k0_pay11 (k0_pay3 v0 v2) (k0_pay5 v12 v14) (k0_pay7 v25) v27) (ix2 0 d)
      = ∑ t, dgAt (tab v25) (tab v27) v0 v2 v12 v14 t d := by
  pointwise [k0_pay1, k0_pay11]
  rw [reduceAdd_012]
  simp only [mulf_apply, Ideal.mulf_def, xhat_q, dn_q, Fin.sum_univ_one, Fin.isValue]
  rfl

/-- The key gain gradient: the sum over all tokens and heads. -/
theorem dg_k (v6 : Vec Ideal S1x1920x8x128 .fp8e5m2) (v8 : Vec Ideal S1x1920x8 .f32)
    (v18 : Vec Ideal S1x1920x8x128 .fp8e4m3) (v20 : Vec Ideal S1x1920x8 .f32)
    (v70 v72 : Vec Ideal S1x1920x1x64 .f32) (d : Fin 128) :
    k0_pay2 (k0_pay16 (k0_pay4 v6 v8) (k0_pay6 v18 v20) v70 v72) (ix2 0 d)
      = ∑ t, dgAt (tab v70) (tab v72) v6 v8 v18 v20 t d := by
  pointwise [k0_pay2, k0_pay16]
  rw [reduceAdd_012]
  simp only [mulf_apply, Ideal.mulf_def, xhat_k, dn_k, Fin.sum_univ_one, Fin.isValue]
  rfl

end Cert.QkNorm.Ref
-- ==== Proof.RefValue.lean ====
/-
  What the reference's four result arrays hold after its run: the definitions of `Spec` at the arguments, its one block
  being all 1920 tokens.
-/
module

public import proofs.«01_k».proof.Proof.Gen.ReferenceIdeal.Frame
public import proofs.«01_k».proof.Proof.RefBlock

@[expose] public section

set_option maxRecDepth 16384

noncomputable section

namespace Cert.QkNorm.Ref

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The cosine table of all tokens. -/
abbrev cosA : Fin 1920 → Fin 64 → EReal := cosTab (pos (T := 1920) (m ((c : Thread nD τ).loc main_arg10))) freq

/-- The sine table of all tokens. -/
abbrev sinA : Fin 1920 → Fin 64 → EReal := sinTab (pos (T := 1920) (m ((c : Thread nD τ).loc main_arg10))) freq

/-- The query input gradients, from the arguments. -/
def dqVal : S1x1920x48x128.Idx → EReal :=
  dx (T := 1920) (H := 48) (fun l => (m ((c : Thread nD τ).loc main_arg8)) (ix1 l)) (cosA m c) (sinA m c)
    (m ((c : Thread nD τ).loc main_arg0)) (m ((c : Thread nD τ).loc main_arg1))
    (m ((c : Thread nD τ).loc main_arg4)) (m ((c : Thread nD τ).loc main_arg5))

/-- The key input gradients, from the arguments. -/
def dkVal : S1x1920x8x128.Idx → EReal :=
  dx (T := 1920) (H := 8) (fun l => (m ((c : Thread nD τ).loc main_arg9)) (ix1 l)) (cosA m c) (sinA m c)
    (m ((c : Thread nD τ).loc main_arg2)) (m ((c : Thread nD τ).loc main_arg3))
    (m ((c : Thread nD τ).loc main_arg6)) (m ((c : Thread nD τ).loc main_arg7))

/-- The gain gradient of the queries, from the arguments. -/
def dgqVal : S1x128.Idx → EReal :=
  dg (T := 1920) (H := 48) (cosA m c) (sinA m c)
    (m ((c : Thread nD τ).loc main_arg0)) (m ((c : Thread nD τ).loc main_arg1))
    (m ((c : Thread nD τ).loc main_arg4)) (m ((c : Thread nD τ).loc main_arg5))

/-- The gain gradient of the keys, from the arguments. -/
def dgkVal : S1x128.Idx → EReal :=
  dg (T := 1920) (H := 8) (cosA m c) (sinA m c)
    (m ((c : Thread nD τ).loc main_arg2)) (m ((c : Thread nD τ).loc main_arg3))
    (m ((c : Thread nD τ).loc main_arg6)) (m ((c : Thread nD τ).loc main_arg7))

/-- Every window's one block lies at the origin. -/
theorem idx : ∀ t : Fin cfg0.N,
    win0_0.index t = ![0, 0, 0, 0] ∧ win0_1.index t = ![0, 0, 0] ∧ win0_2.index t = ![0, 0, 0, 0]
      ∧ win0_3.index t = ![0, 0, 0] ∧ win0_4.index t = ![0, 0, 0, 0] ∧ win0_5.index t = ![0, 0, 0]
      ∧ win0_6.index t = ![0, 0, 0, 0] ∧ win0_7.index t = ![0, 0, 0] ∧ win0_8.index t = ![0]
      ∧ win0_9.index t = ![0] ∧ win0_10.index t = ![0, 0, 0, 0] ∧ win0_11.index t = ![0, 0, 0, 0] :=
  (by decide +kernel : ∀ t : Fin grid0.N, _)

/-- Each of the first ten operands is an argument as it stands. -/
theorem read_args :
    (iblk m c 0 t0_0 : S1x1920x48x128.Idx → EReal) = m ((c : Thread nD τ).loc main_arg0)
      ∧ (iblk m c 1 t0_0 : S1x1920x48.Idx → EReal) = m ((c : Thread nD τ).loc main_arg1)
      ∧ (iblk m c 2 t0_0 : S1x1920x8x128.Idx → EReal) = m ((c : Thread nD τ).loc main_arg2)
      ∧ (iblk m c 3 t0_0 : S1x1920x8.Idx → EReal) = m ((c : Thread nD τ).loc main_arg3)
      ∧ (iblk m c 4 t0_0 : S1x1920x48x128.Idx → EReal) = m ((c : Thread nD τ).loc main_arg4)
      ∧ (iblk m c 5 t0_0 : S1x1920x48.Idx → EReal) = m ((c : Thread nD τ).loc main_arg5)
      ∧ (iblk m c 6 t0_0 : S1x1920x8x128.Idx → EReal) = m ((c : Thread nD τ).loc main_arg6)
      ∧ (iblk m c 7 t0_0 : S1x1920x8.Idx → EReal) = m ((c : Thread nD τ).loc main_arg7)
      ∧ (iblk m c 8 t0_0 : S128.Idx → EReal) = m ((c : Thread nD τ).loc main_arg8)
      ∧ (iblk m c 9 t0_0 : S128.Idx → EReal) = m ((c : Thread nD τ).loc main_arg9) := by
  refine ⟨?_, ?_, ?_, ?_, ?_, ?_, ?_, ?_, ?_, ?_⟩ <;> (funext y; blk_point [iblk, V, idx t0_0])

/-- The cosine table the host computes. -/
theorem read_cos : tab (iblk m c 10 t0_0) = cosA m c := by
  funext t k
  unfold tab
  have h : (iblk m c 10 t0_0 : Vec Ideal S1x1920x1x64 .f32) (ix4 0 t 0 k) = (V m c main_v15 : S1x1920x1x64.Idx → EReal) (ix4 0 t 0 k) := by
    blk_point [iblk, idx t0_0]
  rw [h]
  entry_read
  pointwise
  rfl

/-- The sine table the host computes. -/
theorem read_sin : tab (iblk m c 11 t0_0) = sinA m c := by
  funext t k
  unfold tab
  have h : (iblk m c 11 t0_0 : Vec Ideal S1x1920x1x64 .f32) (ix4 0 t 0 k) = (V m c main_v17 : S1x1920x1x64.Idx → EReal) (ix4 0 t 0 k) := by
    blk_point [iblk, idx t0_0]
  rw [h]
  entry_read
  pointwise
  rfl

/-- After the run the first result holds the input gradients of the queries. -/
theorem final_dq : (dats m 0 c).arrAt 12 cfg0.N = dqVal m c := by
  refine (dats m 0 c).arrAt_eq_of_after_last 12 t0_0 (by decide +kernel) _ fun j => ?_
  blk_simp
  rw [after0_12]
  unfold_out out0_12
  frame_out
  obtain ⟨h0, h1, _, _, h4, h5, _, _, h8, _⟩ := read_args m c
  rw [h0, h1, h4, h5, h8]
  idx_vars j
  obtain rfl : j0 = 0 := Subsingleton.elim _ _
  refine (dx_q ..).trans ?_
  rw [read_cos, read_sin]
  unfold dqVal dx
  rfl

/-- After the run the second result holds the input gradients of the keys. -/
theorem final_dk : (dats m 0 c).arrAt 13 cfg0.N = dkVal m c := by
  refine (dats m 0 c).arrAt_eq_of_after_last 13 t0_0 (by decide +kernel) _ fun j => ?_
  blk_simp
  rw [after0_13]
  unfold_out out0_13
  frame_out
  obtain ⟨_, _, h2, h3, _, _, h6, h7, _, h9⟩ := read_args m c
  rw [h2, h3, h6, h7, h9]
  idx_vars j
  obtain rfl : j0 = 0 := Subsingleton.elim _ _
  refine (dx_k ..).trans ?_
  rw [read_cos, read_sin]
  unfold dkVal dx
  rfl

/-- After the run the third result holds the gain gradient of the queries. -/
theorem final_gq : (dats m 0 c).arrAt 14 cfg0.N = dgqVal m c := by
  refine (dats m 0 c).arrAt_eq_of_after_last 14 t0_0 (by decide +kernel) _ fun j => ?_
  blk_simp
  rw [after0_14]
  unfold_out out0_14
  frame_out
  obtain ⟨h0, h1, _, _, h4, h5, _, _, _, _⟩ := read_args m c
  rw [h0, h1, h4, h5]
  idx_vars j
  obtain rfl : j0 = 0 := Subsingleton.elim _ _
  refine (dg_q ..).trans ?_
  rw [read_cos, read_sin]
  unfold dgqVal dg
  rfl

/-- After the run the fourth result holds the gain gradient of the keys. -/
theorem final_gk : (dats m 0 c).arrAt 15 cfg0.N = dgkVal m c := by
  refine (dats m 0 c).arrAt_eq_of_after_last 15 t0_0 (by decide +kernel) _ fun j => ?_
  blk_simp
  rw [after0_15]
  unfold_out out0_15
  frame_out
  obtain ⟨_, _, h2, h3, _, _, h6, h7, _, _⟩ := read_args m c
  rw [h2, h3, h6, h7]
  idx_vars j
  obtain rfl : j0 = 0 := Subsingleton.elim _ _
  refine (dg_k ..).trans ?_
  rw [read_cos, read_sin]
  unfold dgkVal dg
  rfl

end Cert.QkNorm.Ref
-- ==== Proof.Equation.lean ====
/-
  The equation: from the same arguments the reference's four results are the kernel's.
-/
module

public import proofs.«01_k».proof.Proof.KernelValue
public import proofs.«01_k».proof.Proof.RefValue

@[expose] public section

set_option maxRecDepth 16384

noncomputable section

namespace Cert.QkNorm

open Idealize.ShloMosaic Idealize.ShloMosaic.TcCoe Idealize.SL.Sem

/-- On equal arguments the reference's input gradients and gain gradients are the kernel's: both are the definitions of
    `Spec`. -/
theorem ref_eq_kernel
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Ref.dqVal m' c = Kernel.dqVal m c ∧ Ref.dkVal m' c = Kernel.dkVal m c
      ∧ Ref.dgqVal m' c = Kernel.dgqVal m c ∧ Ref.dgkVal m' c = Kernel.dgkVal m c := by
  obtain ⟨h0, h1, h2, h3, h4, h5, h6, h7, h8, h9, h10⟩ := h
  unfold Ref.dqVal Ref.dkVal Ref.dgqVal Ref.dgkVal Ref.cosA Ref.sinA
  rw [h0, h1, h2, h3, h4, h5, h6, h7, h8, h9, h10]
  exact ⟨rfl, rfl, rfl, rfl⟩

end Cert.QkNorm
-- ==== Proof.lean ====
/-
  The proof of `Cert.Claim`: both programs' runs, their results read as the definitions of `Spec`, and the equation of the two.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The kernel and the reference, run on the same arguments over the extended reals, leave the same four arrays: the input
    gradients of the queries and of the keys, and the gain gradients of both. -/
theorem algebraic : algebraic_KernelIdeal_ReferenceIdeal := by
  intro m g m' g' _ hagree
  refine ⟨fun c => Cert.QkNorm.Kernel.dqVal m c, fun c => Cert.QkNorm.Kernel.dkVal m c,
    fun c => Cert.QkNorm.Kernel.dgqVal m c, fun c => Cert.QkNorm.Kernel.dgkVal m c, ?_, ?_⟩
  · refine (θ_run _ _ _).mono (fun r h c => ?_) (Cert.KernelIdeal.Value.run_blocks m g)
    obtain ⟨e0, e1, e2, e3, hk⟩ := h c
    exact ⟨e0.trans (Cert.QkNorm.Kernel.final_dq m c), e1.trans (Cert.QkNorm.Kernel.final_dk m c),
      e2.trans (Cert.QkNorm.Kernel.final_gq m c), e3.trans (Cert.QkNorm.Kernel.final_gk m c), hk⟩
  · refine (θ_run _ _ _).mono (fun r h c => ?_) (Cert.ReferenceIdeal.Value.run_blocks m' g')
    obtain ⟨e0, e1, e2, e3, hk⟩ := h c
    obtain ⟨q0, q1, q2, q3⟩ := Cert.QkNorm.ref_eq_kernel m m' c (hagree c)
    exact ⟨(e0.trans (Cert.QkNorm.Ref.final_dq m' c)).trans q0, (e1.trans (Cert.QkNorm.Ref.final_dk m' c)).trans q1,
      (e2.trans (Cert.QkNorm.Ref.final_gq m' c)).trans q2, (e3.trans (Cert.QkNorm.Ref.final_gk m' c)).trans q3, hk⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
